-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x32 : Shape := ⟨3, ![4, 4096, 32]⟩
abbrev S64x32 : Shape := ⟨2, ![64, 32]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x32, .f32⟩
  | .hbm, ⟨1, _⟩ => ⟨S64x32, .f32⟩
  | .hbm, ⟨2, _⟩ => ⟨S4x4096x32, .f32⟩
  | _, _ => ⟨S4x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

abbrev grid0 : Pipeline.Grid := .none
-- ==== Reference.lean ====
abbrev S4x4096x32 : Shape := ⟨3, ![4, 4096, 32]⟩
abbrev S64x32 : Shape := ⟨2, ![64, 32]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x32, .f32⟩
  | .hbm, ⟨1, _⟩ => ⟨S64x32, .f32⟩
  | _, _ => ⟨S4x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Copy.lean ====
/-
  `Kernel`'s run, at any reading `F` of the floats: every execution terminates without fault, the two argument
  arrays end as they were launched, the result array ends holding the first argument's words, and every semaphore
  counter ends at zero.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Tactic

@[expose] public section

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The assertions' model: the pipeline's ghost state beside the counters of the transfers in flight. -/
local notation "𝕄" => MT nD τ sig Unit (Elt F) ℕ (Pipeline.UD sig nD τ) ℕ

variable (m : (ℓ : Loc nD τ sig) → Buf (Elt F) ℓ) (ρ : Dev nD → PrngReg)

/-- What core `c`'s buffer `b` holds at the launch. -/
abbrev atLaunch (c : Dev nD) (b : Ref sig .tc) : Buf (Elt F) ((c : Thread nD τ).loc b) := m ((c : Thread nD τ).loc b)

/-- What it holds at the end: the launch contents, but for the result, which holds the first argument. -/
def atEnd (c : Dev nD) : (b : Ref sig .tc) → Buf (Elt F) ((c : Thread nD τ).loc b) :=
  Function.update (atLaunch m c) main_v0 (atLaunch m c main_arg0)

/-- At the end the result holds the first argument. -/
theorem atEnd_result (c : Dev nD) : atEnd m c main_v0 = atLaunch m c main_arg0 := by
  unfold atEnd; rw [Function.update_self]

/-- @main is the one region, entered at the launch contents. -/
theorem main_enters : Pipeline.HMain (Ix := Unit) (Name := ℕ) (U := Pipeline.UD sig nD τ) (Lvl := ℕ) cfgs 0 defs₀
    Variants.none m (main (F := F)) (atLaunch m) :=
  Pipeline.hmain_region cfgs 0 defs₀ Variants.none m main fun c => (main_chain c).trans rfl

/-! ## What the copy reads, what it writes, the cell it completes on -/

/-- The operand the copy reads. -/
def source : Finset (Ref sig .tc) := {main_arg0}
/-- The result the copy writes. -/
def target : Finset (Ref sig .tc) := {main_v0}
/-- The kernel's one DMA semaphore. -/
abbrev cell : Fin 1 → SemLoc sig := fun _ => SemLoc.dma 0

/-- The semaphore is the kernel's own: no window of the region completes on it. -/
theorem cellFacts : Pipeline.OwnSemFacts (cfg0.spec) cell := by decide
/-- No window of the region stages the operand. -/
theorem source_rest : source ⊆ Pipeline.restRefs sig (cfg0.spec) := by decide
/-- No window of the region stages the result, and the result is not the operand. -/
theorem target_rest : target ⊆ Pipeline.restRefs sig (cfg0.spec) \ source := by decide

/-- What the body is given and gives back, when the result holds `X b` at `b = main_v0`: the generator register, the
    cell at zero, the operand as launched, the result. -/
theorem held_eq (X : (c : Dev nD) → (b : Ref sig .tc) → Buf (Elt F) ((c : Thread nD τ).loc b)) (c : Dev nD) :
    (Pipeline.ΦDRG cell (cfg0.spec) source target (atLaunch m) X c : sProp 𝕄)
      = iprop(emp ∗ (∃ r, prngReg c r) ∗ semVal ((c : Thread nD τ), SemLoc.dma 0) 0
          ∗ (((c : Thread nD τ).loc main_arg0) ↦{fullShare} atLaunch m c main_arg0)
          ∗ (((c : Thread nD τ).loc main_v0) ↦{fullShare} X c main_v0)) := by
  rw [Pipeline.ΦDRG_eq, scopedRest0_eq, Pipeline.ownSems0_eq_of_list c cell [0] (by decide) (by decide)]
  unfold source target
  rw [BI.bigSep_singleton, Pipeline.routed_singleton]
  rfl

/-! ## The body -/

/-- The operand, whole. -/
abbrev src : Memref sig .tc .hbm S4x4096x32 .f32 := Memref.whole main_arg0
/-- The result, whole. -/
abbrev dst : Memref sig .tc .hbm S4x4096x32 .f32 := Memref.whole main_v0

/-- Core `c` holds the whole of `M`'s buffer, at contents `f`. -/
abbrev holds (c : Dev nD) (M : Memref sig .tc .hbm S4x4096x32 .f32) (f : Buf (Elt F) (M.view.loc (c : Thread nD τ))) : sProp 𝕄 :=
  M.view.loc (c : Thread nD τ) ↦{fullShare} f

/-- The body, on the operand at `f`, the result at anything and the cell at zero: the copy is started and awaited, so
    the result ends at `f`, the operand is as it was, and the cell is at zero again. -/
theorem body_copies (c : Dev nD) (f : Buf (Elt F) (src.view.loc (c : Thread nD τ))) (h : Buf (Elt F) (dst.view.loc (c : Thread nD τ)))
    (W : Waits sig Unit) (K : PUnit → sProp 𝕄) :
    iprop(semVal ((c : Thread nD τ), SemLoc.dma 0) 0 ∗ holds c src f ∗ holds c dst h ∗ owes (c : Thread nD τ) 0 W
        ∗ (iprop(semVal ((c : Thread nD τ), SemLoc.dma 0) 0 ∗ holds c src f ∗ holds c dst f
            ∗ (∃ W', owes (c : Thread nD τ) 0 W')) -∗ K ⟨⟩))
      ⊢ wp frame (wpE (defs₀ (F := F)) Variants.none c none) Set.univ
          (cc0__dma_copy_kernel src (Memref.isWhole_whole _) dst (Memref.isWhole_whole _) cc0_scratch0) K := by
  simp only [cc0__dma_copy_kernel_eq_skeleton]; unfold cc0__dma_copy_kernel_skel
  iintro ⟨Hs, Hx, Ho, HW, Hk⟩
  sl_exec
  sl_step
  iapply Hk
  isplitl [Hs]; · iexact Hs
  isplitl [Hx]; · iexact Hx
  isplitl [Ho]
  · rw [show View.write (Elt F) dst.view h (body_copies.sl.dma0 c f) Finset.univ = f from View.write_whole_univ _ _ _]
    iexact Ho
  iexists _; iexact HW

/-! ## The region -/

/-- The proof data of the region, which stages no window: before its one point the result is as launched, after it
    the result holds the operand. -/
def regionData (_ : Fin 1) (c : Dev nD) : Dat τ (Elt F) Unit ℕ (Pipeline.UD sig nD τ) ℕ cfg0 c where
  A w := w.elim0
  after w := w.elim0
  Φ t := Pipeline.ΦDRG cell (cfg0.spec) source target (atLaunch m) (if t = 0 then atLaunch m else atEnd m) c
  q _ := fullShare
  owed _ := 0

/-- At the region's one point the body, given the first invariant, ends in the second. -/
theorem region_body (c : Dev nD) : BodyObligation (regionData (F := F) m 0 c) (defs₀ (F := F)) Variants.none () Set.univ := by
  intro t
  rw [Finset.univ_eq_empty, bigSep_empty, bigSep_empty]
  obtain rfl := fin_N0 t
  have row : defs₀ (F := F) .tc cfg0.body (cfg0.bodyArgs t0_0 (cfg0.slots t0_0)) = bodyAt0 t0_0 := by
    unfold defs₀; rw [Defs.onTc_tc]
  rw [row]
  have before : (regionData m 0 c).Φ (Fin.castSucc t0_0)
      = Pipeline.ΦDRG cell (cfg0.spec) source target (atLaunch m) (atLaunch m) c := by
    dsimp only [regionData]; rw [if_pos (by decide)]
  have after : (regionData m 0 c).Φ (Fin.succ t0_0)
      = Pipeline.ΦDRG cell (cfg0.spec) source target (atLaunch m) (atEnd m) c := by
    dsimp only [regionData]; rw [if_neg (by decide)]
  rw [before, after, held_eq, held_eq, atEnd_result]
  unfold Dat.owesAt Pipeline.owesWithin
  rw [show (regionData m 0 c).owed (Fin.castSucc t0_0) = 0 from rfl, show (regionData m 0 c).owed (Fin.succ t0_0) = 0 from rfl]
  unfold bodyAt0
  iintro ⟨⟨He, Hg, Hs, Hx, Ho⟩, ⟨%W, -, HW⟩, Hn⟩
  iapply (body_copies c (atLaunch m c main_arg0) (atLaunch m c main_v0) W _)
  isplitl [Hs]; · iexact Hs
  isplitl [Hx]; · iexact Hx
  isplitl [Ho]; · iexact Ho
  isplitl [HW]; · iexact HW
  iintro ⟨Hs, Hx, Ho, ⟨%W', HW⟩⟩
  isplitl [He Hg Hs Hx Ho]
  · isplitl [He]; · iexact He
    isplitl [Hg]; · iexact Hg
    isplitl [Hs]; · iexact Hs
    isplitl [Hx]; · iexact Hx
    iexact Ho
  isplitl [HW]
  · iexists W'; isplitr; · ipureintro; exact fun _ _ => Or.inl trivial
    iexact HW
  iexact Hn

set_option backward.isDefEq.respectTransparency.types false in
/-- The region's run: every buffer but the result as launched, the result at `atEnd`, every counter at zero. -/
theorem region_run : θ_run defs (onTc (τ := τ) (main (F := F))) (s₀ m ρ)
    (fun r => Pipeline.FramePostRG cfgs (regionData m) 0 target (atLaunch m) (atEnd m) r ∧ r.2.sem = fun _ => 0) :=
  Pipeline.θ_run_frame_dmaRG (Q' := _) cfgs (regionData m) (0 : Fin 1) launch0 cell defs₀ Variants.none cellFacts
    source target source_rest target_rest m ρ main
    (hbody := fun c => (region_body m c).loose) (hshare := fun c w => w.elim0)
    (howed := fun _ _ => rfl) (V := atLaunch m) (hmain := main_enters m) (hA := fun _ w => w.elim0) (G := atEnd m)
    (hin := fun _ => by dsimp only [regionData]; rw [if_pos rfl])
    (hout := fun _ => by dsimp only [regionData]; rw [if_neg (by decide)])

/-- THE RUN: the arguments end unchanged, the result ends equal to the first argument, every counter ends at zero. -/
theorem run : θ_run defs (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ?_) (region_run m ρ)
  have kept : ∀ (c : Dev nD) (b : Ref sig .tc), b ∉ target →
      b ∈ Pipeline.restRefs sig (cfg0.spec) → r.2.mem ((c.tc : Thread nD τ).loc b) = m ((c.tc : Thread nD τ).loc b) :=
    fun c b hb hr => (h.1.toR c).2 b (Finset.mem_sdiff.mpr ⟨hr, hb⟩)
  exact ⟨fun c => ⟨(h.1.written c (by decide)).trans (atEnd_result m c),
    kept c main_arg0 (by decide) (by decide), kept c main_arg1 (by decide) (by decide)⟩, h.2⟩

end Cert.Kernel.Copy

end
-- ==== Proof.Ideal.lean ====
/-
  `KernelIdeal` is `Kernel`'s own text printed under another name, so its run is the run proved of `Kernel`.
-/
module

public import proofs.«01_k».proof.Proof.Copy
public import proofs.«01_k».proof.Proof.Gen.KernelIdeal

@[expose] public section

noncomputable section

namespace Cert.KernelIdeal.Copy

open Idealize.ShloMosaic Idealize.SL.Sem Cert.KernelIdeal

variable {F : FTy → Type} [FloatOps F]
variable (m : (ℓ : Loc nD τ sig) → Buf (Elt F) ℓ) (ρ : Dev nD → PrngReg)

/-- `KernelIdeal`'s run, at any reading of the floats: the result ends equal to the first argument, the arguments end
    unchanged, every counter ends at zero. -/
theorem run : θ_run defs (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Cert.Kernel.Copy.run m ρ

end Cert.KernelIdeal.Copy

end
-- ==== Proof.Returned.lean ====
/-
  The reference returns its first argument: it performs no operation, so every array ends as it was launched.
-/
module

public import proofs.«01_k».proof.Proof.Gen.Reference
public import proofs.«01_k».proof.Proof.Gen.ReferenceIdeal
public import Idealize.ShloMosaic.Lib.Quiescent
public import Idealize.ShloMosaic.Lib.StableHlo.RunHlo

@[expose] public section

noncomputable section

open Idealize.ShloMosaic Idealize.SL.Sem

namespace Cert.Reference.Returned

open Cert.Reference

variable {F : FTy → Type} [FloatOps F]

/-- `Reference`'s run: every buffer ends as launched, every counter ends at zero. -/
theorem run (m : (ℓ : Loc nD τ sig) → Buf (Elt F) ℓ) (ρ : Dev nD → PrngReg) :
    θ_run defs (onTc (τ := τ) (main (F := F))) ⟨m, fun _ => 0, ρ⟩ (fun r =>
      (∀ (c : Dev nD) (b : Ref sig .tc), r.2.mem ((c.tc : Thread nD τ).loc b) = m ((c.tc : Thread nD τ).loc b))
      ∧ r.2.sem = fun _ => 0) :=
  (θ_run defs _ _).mono (fun r h => ⟨h, sem_eq_zero_of_no_sems (by decide) r.2⟩)
    (StableHlo.run_hlo (ops := []) defs main (fun _ => StableHlo.IsSeq.nil) (by decide) (by decide) trivial
      (fun _ h => nomatch h) m ρ)

end Cert.Reference.Returned

namespace Cert.ReferenceIdeal.Returned

open Cert.ReferenceIdeal

variable {F : FTy → Type} [FloatOps F]

/-- `ReferenceIdeal`'s run, which is `Reference`'s, the two being one text: every buffer ends as launched, every
    counter ends at zero. -/
theorem run (m : (ℓ : Loc nD τ sig) → Buf (Elt F) ℓ) (ρ : Dev nD → PrngReg) :
    θ_run defs (onTc (τ := τ) (main (F := F))) ⟨m, fun _ => 0, ρ⟩ (fun r =>
      (∀ (c : Dev nD) (b : Ref sig .tc), r.2.mem ((c.tc : Thread nD τ).loc b) = m ((c.tc : Thread nD τ).loc b))
      ∧ r.2.sem = fun _ => 0) :=
  Cert.Reference.Returned.run m ρ

end Cert.ReferenceIdeal.Returned

end
-- ==== Proof.lean ====
/-
  The certificate's proof: the kernel's run (Proof/Copy.lean, Proof/Ideal.lean) and the reference's
  (Proof/Returned.lean), read at what each claim asks.
-/
module

public import proofs.«01_k».proof.Defs
public import proofs.«01_k».proof.Proof.Copy
public import proofs.«01_k».proof.Proof.Ideal
public import proofs.«01_k».proof.Proof.Returned

@[expose] public section

noncomputable section

namespace Cert.Proof

open Idealize.ShloMosaic Idealize.SL.Sem

/-- `Kernel` runs, leaves its arguments unchanged and every counter at zero. -/
theorem frame_kernel : Cert.quiescent_Kernel := fun m g _ =>
  (θ_run Cert.Kernel.defs _ _).mono (fun _ h => ⟨fun c => (h.1 c).2, h.2⟩) (Cert.Kernel.Copy.run m g)

/-- `KernelIdeal` runs, leaves its arguments unchanged and every counter at zero. -/
theorem frame_kernelIdeal : Cert.quiescent_KernelIdeal := fun m g _ =>
  (θ_run Cert.KernelIdeal.defs _ _).mono (fun _ h => ⟨fun c => (h.1 c).2, h.2⟩) (Cert.KernelIdeal.Copy.run m g)

/-- `ReferenceIdeal` runs, leaves its arguments unchanged and every counter at zero. -/
theorem frame_referenceIdeal : Cert.quiescent_ReferenceIdeal := fun m g _ =>
  (θ_run Cert.ReferenceIdeal.defs _ _).mono (fun _ h => ⟨fun c => ⟨h.1 c _, h.1 c _⟩, h.2⟩)
    (Cert.ReferenceIdeal.Returned.run m g)

/-- `Reference` runs, leaves its arguments unchanged and every counter at zero. -/
theorem frame_reference : Cert.quiescent_Reference := fun m g _ =>
  (θ_run Cert.Reference.defs _ _).mono (fun _ h => ⟨fun c => ⟨h.1 c _, h.1 c _⟩, h.2⟩)
    (Cert.Reference.Returned.run m g)

/-- At the extended reals the kernel's result and the reference's are both the first argument. -/
theorem results_equal_ideal : Cert.algebraic_KernelIdeal_ReferenceIdeal := fun m g m' g' _ agree =>
  ⟨fun c => m ((c.tc : Thread Cert.KernelIdeal.nD Cert.KernelIdeal.τ).loc Cert.KernelIdeal.main_arg0),
    (θ_run Cert.KernelIdeal.defs _ _).mono (fun _ h => h.1) (Cert.KernelIdeal.Copy.run m g),
    (θ_run Cert.ReferenceIdeal.defs _ _).mono (fun _ h c => ⟨(h.1 c _).trans (agree c).1, h.1 c _, h.1 c _⟩)
      (Cert.ReferenceIdeal.Returned.run m' g')⟩

/-- Word for word the kernel's result and the reference's are both the first argument. -/
theorem results_equal_bits : Cert.bitexact_Kernel_Reference := fun m g m' g' _ agree =>
  ⟨fun c => m ((c.tc : Thread Cert.Kernel.nD Cert.Kernel.τ).loc Cert.Kernel.main_arg0),
    (θ_run Cert.Kernel.defs _ _).mono (fun _ h => h.1) (Cert.Kernel.Copy.run m g),
    (θ_run Cert.Reference.defs _ _).mono (fun _ h c => ⟨(h.1 c _).trans (agree c).1, h.1 c _, h.1 c _⟩)
      (Cert.Reference.Returned.run m' g')⟩

/-- Every claim of the certificate, at the generated witnesses of the programs' stated side conditions. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, results_equal_ideal, results_equal_bits⟩

end Cert.Proof

end
